-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_in_table [hPre_types_in_table : Cert.Pre_types_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_types_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_table [hPre_types_in_table : Cert.Pre_types_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_types_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_types_in_table [hKernelIdeal : Cert.KernelIdeal.Facts] [hPre_types_in_table : Cert.Pre_types_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_types_in_table [hReferenceIdeal : Cert.ReferenceIdeal.Facts] [hPre_types_in_table : Cert.Pre_types_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_types_in_table [hKernelIdeal : Cert.KernelIdeal.Facts] [hReferenceIdeal : Cert.ReferenceIdeal.Facts] [hPre_types_in_table : Cert.Pre_types_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_types_in_table : Cert.Pre_types_in_table.Facts),
    quiescent_Kernel (hKernel := hKernel)
    ∧ quiescent_KernelIdeal (hKernelIdeal := hKernelIdeal)
    ∧ quiescent_KernelIdeal_pre_types_in_table (hKernelIdeal := hKernelIdeal) (hPre_types_in_table := hPre_types_in_table)
    ∧ quiescent_ReferenceIdeal (hReferenceIdeal := hReferenceIdeal)
    ∧ quiescent_ReferenceIdeal_pre_types_in_table (hReferenceIdeal := hReferenceIdeal) (hPre_types_in_table := hPre_types_in_table)
    ∧ preserves_Kernel_KernelIdeal
    ∧ algebraic_KernelIdeal_ReferenceIdeal_pre_types_in_table (hKernelIdeal := hKernelIdeal) (hReferenceIdeal := hReferenceIdeal) (hPre_types_in_table := hPre_types_in_table)
-- ==== Pre_types_in_table.lean ====
abbrev S4x2048x1000 : Shape := ⟨3, ![4, 2048, 1000]⟩
abbrev S4x2048 : Shape := ⟨2, ![4, 2048]⟩
abbrev S1000x768 : Shape := ⟨2, ![1000, 768]⟩
abbrev S2048x768 : Shape := ⟨2, ![2048, 768]⟩
abbrev S2x768 : Shape := ⟨2, ![2, 768]⟩
abbrev S768 : Shape := ⟨1, ![768]⟩
abbrev S_ : Shape := ⟨0, ![]⟩
abbrev S1x768 : Shape := ⟨2, ![1, 768]⟩

class Facts : Prop where
  bcast_S_S4x2048 : S_.BroadcastsInDim S4x2048 (![] : Fin 0 → Fin S4x2048.rank)
  slices_S2x768_S1x768_0_0 : S2x768.Slices ![0, 0] S1x768
  shapeCasts_S1x768_S768 : S1x768.ShapeCasts S768
  bcast_S_S768 : S_.BroadcastsInDim S768 (![] : Fin 0 → Fin S768.rank)

variable [Facts]

def fn {F : FTy → Type} [FloatOps F] (main_arg0 : FVec F S4x2048x1000 .f32) (main_arg1 : IVec S4x2048 32) (main_arg2 : FVec F S1000x768 .f32) (main_arg3 : FVec F S2048x768 .f32) (main_arg4 : FVec F S2x768 .f32) (main_arg5 : FVec F S768 .f32) (main_arg6 : FVec F S768 .f32) : IVec S4x2048 1 × IVec S768 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 2#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_v5 : FVec F S1x768 .f32 := (extractStridedSlice S1x768 ![0, 0] · slices_S2x768_S1x768_0_0) main_arg4
  let main_v6 : FVec F S768 .f32 := shapeCast S768 main_v5 shapeCasts_S1x768_S768
  let main_v7 : FVec F S768 .f32 := Host.absf main_v6
  let main_cst : FVec F S_ .f32 := constant S_ .f32 0x7F800000#32
  let main_v8 : FVec F S768 .f32 := broadcastInDim S768 ![] bcast_S_S768 main_cst
  let main_v9 : IVec S768 1 := cmpf .olt main_v7 main_v8
  (main_v4, main_v9)
-- ==== Kernel.lean ====
abbrev S4x2048x1000 : Shape := ⟨3, ![4, 2048, 1000]⟩
abbrev S4x2048 : Shape := ⟨2, ![4, 2048]⟩
abbrev S1000x768 : Shape := ⟨2, ![1000, 768]⟩
abbrev S2048x768 : Shape := ⟨2, ![2048, 768]⟩
abbrev S2x768 : Shape := ⟨2, ![2, 768]⟩
abbrev S768 : Shape := ⟨1, ![768]⟩
abbrev S8x1x1024 : Shape := ⟨3, ![8, 1, 1024]⟩
abbrev S1x768 : Shape := ⟨2, ![1, 768]⟩
abbrev S4x2048x768 : Shape := ⟨3, ![4, 2048, 768]⟩
abbrev S1x512x1000 : Shape := ⟨3, ![1, 512, 1000]⟩
abbrev S1x1x1024 : Shape := ⟨3, ![1, 1, 1024]⟩
abbrev S1x1024x768 : Shape := ⟨3, ![1, 1024, 768]⟩
abbrev S1024 : Shape := ⟨1, ![1024]⟩
abbrev S1024x1 : Shape := ⟨2, ![1024, 1]⟩
abbrev S512x1000 : Shape := ⟨2, ![512, 1000]⟩
abbrev S512x768 : Shape := ⟨2, ![512, 768]⟩
abbrev S512x1 : Shape := ⟨2, ![512, 1]⟩
abbrev S512 : Shape := ⟨1, ![512]⟩
abbrev S1x512x768 : Shape := ⟨3, ![1, 512, 768]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x1000, .f32⟩
  | .hbm, ⟨1, _⟩ => ⟨S4x2048, .i32⟩
  | .hbm, ⟨2, _⟩ => ⟨S1000x768, .f32⟩
  | .hbm, ⟨3, _⟩ => ⟨S2048x768, .f32⟩
  | .hbm, ⟨4, _⟩ => ⟨S2x768, .f32⟩
  | .hbm, ⟨5, _⟩ => ⟨S768, .f32⟩
  | .hbm, ⟨6, _⟩ => ⟨S768, .f32⟩
  | .hbm, ⟨7, _⟩ => ⟨S8x1x1024, .i32⟩
  | .hbm, ⟨8, _⟩ => ⟨S1x768, .f32⟩
  | .hbm, ⟨9, _⟩ => ⟨S1x768, .f32⟩
  | .hbm, ⟨10, _⟩ => ⟨S2x768, .f32⟩
  | .hbm, ⟨11, _⟩ => ⟨S4x2048x768, .f32⟩
  | .local _ .vmem, ⟨0, _⟩ => ⟨S1x512x1000, .f32⟩
  | .local _ .vmem, ⟨1, _⟩ => ⟨S1x512x1000, .f32⟩
  | .local _ .vmem, ⟨2, _⟩ => ⟨S1x512x1000, .f32⟩
  | .local _ .vmem, ⟨3, _⟩ => ⟨S1x512x1000, .f32⟩
  | .local _ .vmem, ⟨4, _⟩ => ⟨S1x1x1024, .i32⟩
  | .local _ .vmem, ⟨5, _⟩ => ⟨S1x1x1024, .i32⟩
  | .local _ .vmem, ⟨6, _⟩ => ⟨S1000x768, .f32⟩
  | .local _ .vmem, ⟨7, _⟩ => ⟨S2048x768, .f32⟩
  | .local _ .vmem, ⟨8, _⟩ => ⟨S2x768, .f32⟩
  | .local _ .vmem, ⟨9, _⟩ => ⟨S2x768, .f32⟩
  | .local _ .vmem, ⟨10, _⟩ => ⟨S1x1024x768, .f32⟩
  | .local _ .vmem, ⟨11, _⟩ => ⟨S1x1024x768, .f32⟩
  | _, _ => ⟨S4x2048x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def k0_off1 (i : grid0.Coords) (c0_i32_17 : BitVec 32) : Fin 2 → Nat :=
  let arg0 : BitVec 32 := BitVec.ofNat 32 (i 0).val
  let c2_i32 : BitVec 32 := 2#32
  let c0_i32 : BitVec 32 := 0#32
  let v8 : BitVec 1 := Scalar.cmpi .eq c2_i32 c0_i32
  let c1_i32 : BitVec 32 := 1#32
  let v9 : BitVec 32 := Scalar.select v8 c1_i32 c2_i32
  let v10 : BitVec 32 := Scalar.remsi arg0 v9
  let c0_i32_9 : BitVec 32 := 0#32
  let v12 : BitVec 1 := Scalar.cmpi .slt v10 c0_i32_9
  let c0_i32_10 : BitVec 32 := 0#32
  let v13 : BitVec 1 := Scalar.cmpi .slt v9 c0_i32_10
  let v14 : BitVec 1 := Scalar.xori v12 v13
  let c0_i32_8 : BitVec 32 := 0#32
  let v11 : BitVec 1 := Scalar.cmpi .ne v10 c0_i32_8
  let v15 : BitVec 1 := Scalar.andi v14 v11
  let v16 : BitVec 32 := Scalar.addi v10 v9
  let v17 : BitVec 32 := Scalar.select v15 v16 v10
  let c1024_i32 : BitVec 32 := 1024#32
  let v25 : BitVec 32 := Scalar.muli v17 c1024_i32
  let v26 : BitVec 32 := Scalar.addi v25 c0_i32_17
  let v27 : Index := Scalar.indexCast v26
  let c0_18 : Index := 0#32
  ![v27.toNat, 0]
def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli c2_i32_10 v26
  let c0_i32_11 : BitVec 32 := 0#32
  let c0_i32_12 : BitVec 32 := 0#32
  ![v16.toNat, v27.toNat, c0_i32_11.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli c2_i32_10 v26
  let c1_i32_11 : BitVec 32 := 1#32
  let v28 : BitVec 32 := Scalar.addi v27 c1_i32_11
  let c0_i32_12 : BitVec 32 := 0#32
  let c0_i32_13 : BitVec 32 := 0#32
  ![v16.toNat, v28.toNat, c0_i32_12.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1000x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2048x1000 : Shape := ⟨3, ![4, 2048, 1000]⟩
abbrev S4x2048 : Shape := ⟨2, ![4, 2048]⟩
abbrev S1000x768 : Shape := ⟨2, ![1000, 768]⟩
abbrev S2048x768 : Shape := ⟨2, ![2048, 768]⟩
abbrev S2x768 : Shape := ⟨2, ![2, 768]⟩
abbrev S768 : Shape := ⟨1, ![768]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x768 : Shape := ⟨3, ![1, 2048, 768]⟩
abbrev S4x2048x1 : Shape := ⟨3, ![4, 2048, 1]⟩
abbrev S1x1x1 : Shape := ⟨3, ![1, 1, 1]⟩
abbrev S4x2048x768 : Shape := ⟨3, ![4, 2048, 768]⟩
abbrev S1x1x768 : Shape := ⟨3, ![1, 1, 768]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x1000, .f32⟩
  | .hbm, ⟨1, _⟩ => ⟨S4x2048, .i32⟩
  | .hbm, ⟨2, _⟩ => ⟨S1000x768, .f32⟩
  | .hbm, ⟨3, _⟩ => ⟨S2048x768, .f32⟩
  | .hbm, ⟨4, _⟩ => ⟨S2x768, .f32⟩
  | .hbm, ⟨5, _⟩ => ⟨S768, .f32⟩
  | .hbm, ⟨6, _⟩ => ⟨S768, .f32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S1, .i32⟩
  | .hbm, ⟨17, _⟩ => ⟨S_, .i32⟩
  | .hbm, ⟨18, _⟩ => ⟨S2048x1, .i32⟩
  | .hbm, ⟨19, _⟩ => ⟨S2048x1, .i1⟩
  | .hbm, ⟨20, _⟩ => ⟨S1x1, .i32⟩
  | .hbm, ⟨21, _⟩ => ⟨S2048x1, .i32⟩
  | .hbm, ⟨22, _⟩ => ⟨S2048x1, .i1⟩
  | .hbm, ⟨23, _⟩ => ⟨S2048x1, .i1⟩
  | .hbm, ⟨24, _⟩ => ⟨S_, .i1⟩
  | .hbm, ⟨25, _⟩ => ⟨S2048, .i1⟩
  | .hbm, ⟨26, _⟩ => ⟨S2048x768, .f32⟩
  | .hbm, ⟨27, _⟩ => ⟨S2048x768, .i1⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S1x2048x768, .f32⟩
  | .hbm, ⟨32, _⟩ => ⟨S_, .i32⟩
  | .hbm, ⟨33, _⟩ => ⟨S4x2048, .i32⟩
  | .hbm, ⟨34, _⟩ => ⟨S4x2048, .i1⟩
  | .hbm, ⟨35, _⟩ => ⟨S_, .i32⟩
  | .hbm, ⟨36, _⟩ => ⟨S4x2048, .i32⟩
  | .hbm, ⟨37, _⟩ => ⟨S4x2048, .i32⟩
  | .hbm, ⟨38, _⟩ => ⟨S4x2048, .i32⟩
  | .hbm, ⟨39, _⟩ => ⟨S4x2048x1, .i32⟩
  | .hbm, ⟨40, _⟩ => ⟨S1, .i32⟩
  | .hbm, ⟨41, _⟩ => ⟨S_, .i32⟩
  | .hbm, ⟨42, _⟩ => ⟨S4x2048x1, .i32⟩
  | .hbm, ⟨43, _⟩ => ⟨S4x2048x1, .i1⟩
  | .hbm, ⟨44, _⟩ => ⟨S1x1x1, .i32⟩
  | .hbm, ⟨45, _⟩ => ⟨S4x2048x1, .i32⟩
  | .hbm, ⟨46, _⟩ => ⟨S4x2048x1, .i1⟩
  | .hbm, ⟨47, _⟩ => ⟨S4x2048x1, .i1⟩
  | .hbm, ⟨48, _⟩ => ⟨S_, .i1⟩
  | .hbm, ⟨49, _⟩ => ⟨S4x2048, .i1⟩
  | .hbm, ⟨50, _⟩ => ⟨S4x2048x768, .f32⟩
  | .hbm, ⟨51, _⟩ => ⟨S4x2048x768, .i1⟩
  | .hbm, ⟨52, _⟩ => ⟨S_, .f32⟩
  | .hbm, ⟨53, _⟩ => ⟨S4x2048x768, .f32⟩
  | .hbm, ⟨54, _⟩ => ⟨S4x2048x768, .f32⟩
  | .hbm, ⟨55, _⟩ => ⟨S4x2048x768, .f32⟩
  | .hbm, ⟨56, _⟩ => ⟨S4x2048x768, .f32⟩
  | .hbm, ⟨57, _⟩ => ⟨S4x2048x768, .f32⟩
  | .hbm, ⟨58, _⟩ => ⟨S4x2048x768, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S4x2048x768, .f32⟩
  | .hbm, ⟨66, _⟩ => ⟨S4x2048x768, .f32⟩
  | .hbm, ⟨67, _⟩ => ⟨S4x2048x768, .f32⟩
  | .hbm, ⟨68, _⟩ => ⟨S_, .f32⟩
  | .hbm, ⟨69, _⟩ => ⟨S4x2048, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S4x2048x768, .f32⟩
  | .hbm, ⟨75, _⟩ => ⟨S4x2048x768, .f32⟩
  | .hbm, ⟨76, _⟩ => ⟨S_, .f32⟩
  | .hbm, ⟨77, _⟩ => ⟨S4x2048x1, .f32⟩
  | .hbm, ⟨78, _⟩ => ⟨S4x2048x1, .f32⟩
  | .hbm, ⟨79, _⟩ => ⟨S4x2048x1, .f32⟩
  | .hbm, ⟨80, _⟩ => ⟨S4x2048x768, .f32⟩
  | .hbm, ⟨81, _⟩ => ⟨S4x2048x768, .f32⟩
  | .hbm, ⟨82, _⟩ => ⟨S1x1x768, .f32⟩
  | .hbm, ⟨83, _⟩ => ⟨S4x2048x768, .f32⟩
  | .hbm, ⟨84, _⟩ => ⟨S4x2048x768, .f32⟩
  | .hbm, ⟨85, _⟩ => ⟨S1x1x768, .f32⟩
  | .hbm, ⟨86, _⟩ => ⟨S4x2048x768, .f32⟩
  | .hbm, ⟨87, _⟩ => ⟨S4x2048x768, .f32⟩
  | _, _ => ⟨S4x2048x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst : Ref sig .tc := ⟨.hbm, 59, rfl⟩
abbrev main_v8 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_1 : Ref sig .tc := ⟨.hbm, 68, rfl⟩
abbrev main_v15 : Ref sig .tc := ⟨.hbm, 69, rfl⟩
abbrev main_v16 : Ref sig .tc := ⟨.hbm, 70, rfl⟩
abbrev main_cst_2 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_cst_3 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩

abbrev nD : Nat := 1
abbrev τ : Topo := Topo.v7x

variable {F : FTy → Type} [FloatOps F]
-- ==== Proof.Row.lean ====
/-
  The arithmetic of one row, over extended reals and apart from any program.

  A row of the embedding is `E` numbers `y`. The layer normalisation takes its mean, the mean of the squared deviations,
  and scales each deviation down by the square root of that second mean plus a small constant. The kernel multiplies by
  the reciprocal square root, the reference divides by the square root: `scaled_eq` shows that the two agree on every
  row, infinite entries included, because what is under the root is never below the small constant.

  The kernel also spells the row of the type table differently: `row 0 + id · (row 1 − row 0)` where the reference looks the row
  up. `interpolate` shows the two equal for the ids 0 and 1 when row 0 is finite.
-/
module

public import Idealize.ShloMosaic.Lib.Pointwise

@[expose] public section

noncomputable section

namespace Cert.Row

open Idealize.ShloMosaic

/-- The number of columns, as the programs write it. -/
abbrev width : EReal := Ideal.ofBits .f32 0x44400000#32

/-- The constant added under the root, as the programs write it. -/
abbrev eps : EReal := Ideal.ofBits .f32 0x3A83126F#32

/-- The number of columns is the real number 768. -/
theorem width_eq : width = ((768 : ℝ) : EReal) := by
  simp [width, Ideal.ofBits, Ideal.ieee, -EReal.coe_mul]; norm_num

/-- The constant under the root is a positive real. -/
theorem eps_pos : 0 < eps := by
  simp [eps, Ideal.ofBits, Ideal.ieee, -EReal.coe_mul]

/-! ## The two programs' normalisations of a row -/

variable {E : ℕ}

/-- The mean of a row. -/
def mean (y : Fin E → EReal) : EReal := Ideal.div (∑ k, y k) width

/-- A row's deviations from its mean. -/
def dev (y : Fin E → EReal) (e : Fin E) : EReal := y e - mean y

/-- What stands under the root: the mean of the squared deviations, plus the constant. -/
def spread (y : Fin E → EReal) : EReal := Ideal.div (∑ k, dev y k * dev y k) width + eps

/-- The normalised row as the kernel computes it, by the reciprocal square root. -/
def byRsqrt (y g b : Fin E → EReal) (e : Fin E) : EReal := dev y e * Ideal.rsqrt (spread y) * g e + b e

/-- The normalised row as the reference computes it, dividing by the square root. -/
def bySqrt (y g b : Fin E → EReal) (e : Fin E) : EReal := Ideal.div (dev y e) (Ideal.sqrt (spread y)) * g e + b e

/-- No square is negative. -/
theorem square_nonneg (x : EReal) : 0 ≤ x * x := by
  rcases le_total 0 x with h | h
  · exact EReal.mul_nonneg h h
  · have := EReal.mul_nonneg (EReal.neg_nonneg.2 h) (EReal.neg_nonneg.2 h)
    rwa [neg_mul_neg] at this

/-- A nonnegative number over the number of columns is nonnegative. -/
theorem div_width_nonneg {x : EReal} (h : 0 ≤ x) : 0 ≤ Ideal.div x width := by
  rw [width_eq, Ideal.div, if_neg (by norm_num), ← EReal.coe_inv]
  exact EReal.mul_nonneg h (by norm_num)

/-- What stands under the root is positive. -/
theorem spread_pos (y : Fin E → EReal) : 0 < spread y :=
  lt_of_lt_of_le eps_pos (le_add_of_nonneg_left (div_width_nonneg (Finset.sum_nonneg fun k _ => square_nonneg _)))

/-- Multiplying by the reciprocal square root of a positive number is dividing by its square root. -/
theorem scaled_eq (x : EReal) {v : EReal} (h : 0 < v) : x * Ideal.rsqrt v = Ideal.div x (Ideal.sqrt v) := by
  induction v with
  | bot => exact absurd h (by simp)
  | top => simp [Ideal.div]
  | coe r =>
    have hr : 0 < r := EReal.coe_pos.1 h
    have hs : ((Real.sqrt r : ℝ) : EReal) ≠ 0 := by
      exact_mod_cast (Real.sqrt_pos.2 hr).ne'
    rw [Ideal.rsqrt_coe, Ideal.sqrt_coe, if_neg (not_lt.2 hr.le), if_neg (not_lt.2 hr.le), if_neg hr.ne', Ideal.div, if_neg hs,
      EReal.coe_inv]

/-- The two normalisations agree on every row. -/
theorem byRsqrt_eq_bySqrt (y g b : Fin E → EReal) : byRsqrt y g b = bySqrt y g b := by
  funext e
  rw [byRsqrt, bySqrt, scaled_eq _ (spread_pos y)]

/-! ## The row of the type table -/

/-- The kernel's blend of the two rows of the type table is the row that an id of 0 or 1 names, when row 0 is finite. -/
theorem blend_eq (t0 t1 : EReal) (h : ∃ r : ℝ, t0 = r) (k : BitVec 32) (hk : k = 0#32 ∨ k = 1#32) :
    t0 + ((k.toInt : ℝ) : EReal) * (t1 - t0) = if k = 0#32 then t0 else t1 := by
  obtain ⟨r, rfl⟩ := h
  rcases hk with rfl | rfl
  · simp
  · have e : ((1#32 : BitVec 32).toInt : ℝ) = 1 := by norm_num [show (1#32 : BitVec 32).toInt = 1 by decide]
    rw [e, EReal.coe_one, one_mul, if_neg (by decide)]
    induction t1 with
    | bot => simp
    | top => simp
    | coe s => rw [← EReal.coe_sub, ← EReal.coe_add, add_sub_cancel]

/-- The kernel's four addends, in its order, against the reference's three: product, then position row, then the blend of the type rows;
    against product, type row, position row. -/
theorem interpolate (d p t0 t1 : EReal) (h : ∃ r : ℝ, t0 = r) (k : BitVec 32) (hk : k = 0#32 ∨ k = 1#32) :
    d + p + t0 + ((k.toInt : ℝ) : EReal) * (t1 - t0) = d + (if k = 0#32 then t0 else t1) + p := by
  rw [← blend_eq t0 t1 h k hk, add_assoc (d + p), add_right_comm]

/-- A row before normalisation as the kernel adds it up: `x` the input row, `w` the token embedding, `p` the position row, `t0` and
    `t1` the two type rows and `k` the token's type id. -/
def kernelRow {N : ℕ} (x : Fin N → EReal) (w : Fin N → Fin E → EReal) (p t0 t1 : Fin E → EReal) (k : BitVec 32) (e : Fin E) : EReal :=
  ∑ i, x i * w i e + p e + t0 e + ((k.toInt : ℝ) : EReal) * (t1 e - t0 e)

/-- The same row as the reference adds it up, with the type row looked up. -/
def referenceRow {N : ℕ} (x : Fin N → EReal) (w : Fin N → Fin E → EReal) (p t0 t1 : Fin E → EReal) (k : BitVec 32) (e : Fin E) : EReal :=
  ∑ i, x i * w i e + (if k = 0#32 then t0 e else t1 e) + p e

/-- The two rows agree for an id of 0 or 1 and a finite row 0 of the type table. -/
theorem kernelRow_eq {N : ℕ} (x : Fin N → EReal) (w : Fin N → Fin E → EReal) (p t0 t1 : Fin E → EReal) (h : ∀ e, ∃ r : ℝ, t0 e = r)
    (k : BitVec 32) (hk : k = 0#32 ∨ k = 1#32) : kernelRow x w p t0 t1 k = referenceRow x w p t0 t1 k :=
  funext fun e => interpolate _ _ _ _ (h e) k hk

end Cert.Row

end
-- ==== Proof.Block.lean ====
/-
  What the kernel computes of one half block, row by row.

  At a grid point the kernel fills 1024 rows of the result in two halves of 512 rows. Each half is the same computation: the product
  with the token embedding, the position rows, and the blend of the two type rows, then the layer normalisation of each row. The two
  halves differ in the input block they read and in where they start. `rows` and `normed` are that computation, `pay_low` and
  `pay_high` say that the two stores write it, and `rows_apply` and `normed_apply` read it at an index.
-/
module

public import proofs.«01_k».proof.Proof.Gen.KernelIdeal.Value
public import proofs.«01_k».proof.Proof.Row
public import Idealize.ShloMosaic.Lib.Pointwise

@[expose] public section

set_option maxRecDepth 16384

noncomputable section

namespace Cert.KernelIdeal.Half

open Cert.KernelIdeal Cert.KernelIdeal.Gen Idealize.ShloMosaic

/-- The rows of one half before normalisation: `x` the half's input block, `p` its position rows, `tt` its column of type ids as
    numbers, `t0` and `td` row 0 of the type table and the difference of its two rows. -/
def rows (emb : FVec Ideal S1000x768 .f32) (t0 td : FVec Ideal S1x768 .f32) (x : FVec Ideal S1x512x1000 .f32)
    (p : FVec Ideal S512x768 .f32) (tt : FVec Ideal S512x1 .f32) : FVec Ideal S512x768 .f32 :=
  addf (k0_pay6 emb t0 x p) (mulf (broadcastTo S512x768 tt broadcasts_S512x1_S512x768) (broadcastTo S512x768 td broadcasts_S1x768_S512x768))

/-- The rows of one half, normalised, scaled by `g` and shifted by `b`. -/
def normed (g b : FVec Ideal S1x768 .f32) (y : FVec Ideal S512x768 .f32) : FVec Ideal S1x512x768 .f32 :=
  k0_pay1 g b y (multiReduction .add [1] S512 y 0x00000000#32 reduces_S512x768_S512 (.inl rfl) rfl)

/-- The store of the first half writes the normalised rows. -/
theorem pay_low (emb : FVec Ideal S1000x768 .f32) (t0 td g b : FVec Ideal S1x768 .f32) (x : FVec Ideal S1x512x1000 .f32)
    (p : FVec Ideal S512x768 .f32) (tt : FVec Ideal S512x1 .f32) :
    k0_pay8 td g b (k0_pay6 emb t0 x p) tt = normed g b (rows emb t0 td x p tt) := rfl

/-- The store of the second half writes the normalised rows. -/
theorem pay_high (emb : FVec Ideal S1000x768 .f32) (t0 td g b : FVec Ideal S1x768 .f32) (x : FVec Ideal S1x512x1000 .f32)
    (p : FVec Ideal S512x768 .f32) (tt : FVec Ideal S1024x1 .f32) :
    k0_pay1 g b (k0_pay9 emb t0 td tt x p) (k0_pay10 emb t0 td tt x p)
      = normed g b (rows emb t0 td x p (extractStridedSlice S512x1 ![512, 0] tt slices_S1024x1_o512_0_S512x1)) := rfl

/-- An entry of a row before normalisation, the difference of the type rows taken from the two rows. -/
theorem rows_apply (emb : FVec Ideal S1000x768 .f32) (t0 t1 : FVec Ideal S1x768 .f32) (x : FVec Ideal S1x512x1000 .f32)
    (p : FVec Ideal S512x768 .f32) (tt : FVec Ideal S512x1 .f32) (k : BitVec 32) (r : Fin 512) (e : Fin 768)
    (hk : tt (ix2 r 0) = ((k.toInt : ℝ) : EReal)) :
    rows emb t0 (k0_pay2 t0 t1) x p tt (ix2 r e)
      = Cert.Row.kernelRow (fun n => x (ix3 0 r n)) (fun n e => emb (ix2 n e)) (fun e => p (ix2 r e)) (fun e => t0 (ix2 0 e))
          (fun e => t1 (ix2 0 e)) k e := by
  pointwise [rows, k0_pay6, k0_pay2, Cert.Row.kernelRow, hk]

/-- An entry of a normalised row. -/
theorem normed_apply (g b : FVec Ideal S1x768 .f32) (y : FVec Ideal S512x768 .f32) (r : Fin 512) (e : Fin 768) :
    normed g b y (ix3 0 r e)
      = Cert.Row.byRsqrt (fun k => y (ix2 r k)) (fun k => g (ix2 0 k)) (fun k => b (ix2 0 k)) e := by
  pointwise [normed, k0_pay1, Cert.Row.byRsqrt, Cert.Row.dev, Cert.Row.mean, Cert.Row.spread]

/-- The type ids of a block as a column of numbers. -/
theorem ids_apply (tt : IVec S1x1x1024 32) (r : Fin 1024) : k0_pay5 (F := Ideal) tt (ix2 r 0) = (((tt (ix3 0 0 r)).toInt : ℝ) : EReal) := by
  pointwise [k0_pay5]
  rfl

/-- The ids of the first half: the first 512 of the column. -/
theorem ids_low (tt : IVec S1x1x1024 32) (r : Fin 512) :
    k0_pay7 (F := Ideal) tt (ix2 r 0) = (((tt (ix3 0 0 ⟨r.val, by omega⟩)).toInt : ℝ) : EReal) := by
  rw [← ids_apply]
  pointwise [k0_pay7]

/-- The ids of the second half: the last 512 of the column. -/
theorem ids_high (tt : IVec S1x1x1024 32) (r : Fin 512) :
    extractStridedSlice S512x1 ![512, 0] (k0_pay5 (F := Ideal) tt) slices_S1024x1_o512_0_S512x1 (ix2 r 0)
      = (((tt (ix3 0 0 ⟨512 + r.val, by omega⟩)).toInt : ℝ) : EReal) := by
  rw [← ids_apply]
  pointwise

/-- An entry of a half block from what the half loads: its input rows, its position rows, the type rows, its ids, and the scale and shift. -/
theorem half_apply (emb : FVec Ideal S1000x768 .f32) (t0 t1 g b : FVec Ideal S1x768 .f32) (x : FVec Ideal S1x512x1000 .f32)
    (p : FVec Ideal S512x768 .f32) (tt : FVec Ideal S512x1 .f32) (k : BitVec 32) (r : Fin 512) (e : Fin 768)
    (hk : tt (ix2 r 0) = ((k.toInt : ℝ) : EReal)) :
    normed (k0_pay3 g) (k0_pay4 b) (rows emb t0 (k0_pay2 t0 t1) x p tt) (ix3 0 r e)
      = Cert.Row.byRsqrt
          (Cert.Row.kernelRow (fun n => x (ix3 0 r n)) (fun n e => emb (ix2 n e)) (fun e => p (ix2 r e)) (fun e => t0 (ix2 0 e))
            (fun e => t1 (ix2 0 e)) k)
          (fun e => g (ix2 0 e)) (fun e => b (ix2 0 e)) e := by
  have hy : (fun e => rows emb t0 (k0_pay2 t0 t1) x p tt (ix2 r e)) = _ := funext fun e => rows_apply emb t0 t1 x p tt k r e hk
  have hg : (fun e => k0_pay3 g (ix2 0 e)) = fun e => g (ix2 0 e) := by funext e; pointwise [k0_pay3]
  have hb : (fun e => k0_pay4 b (ix2 0 e)) = fun e => b (ix2 0 e) := by funext e; pointwise [k0_pay4]
  rw [normed_apply, hy, hg, hb]

end Cert.KernelIdeal.Half

end
-- ==== Proof.Out.lean ====
/-
  What the kernel leaves in the output block of one grid point.

  Each half reads its own input block, its 512 position rows and its 512 ids, and stores 512 rows. `blockOut` is the whole block as one
  function of the 1024 input rows and 1024 position rows; `half_out` says that a half stores its rows of it, for either half, and
  `out_eq` that the block holds it, since the two halves cover the block.
-/
module

public import proofs.«01_k».proof.Proof.Block

@[expose] public section

set_option maxRecDepth 16384

noncomputable section

namespace Cert.KernelIdeal.Half

open Cert.KernelIdeal Cert.KernelIdeal.Gen Idealize.ShloMosaic Idealize.ShloMosaic.TcCoe

/-- Where the position rows of half `h` begin at grid point `t`. -/
theorem off_eq : ∀ t : Fin grid0.N, ∀ h : Fin 2,
    k0_off1 (grid0.coords t) (BitVec.ofNat 32 (512 * h.val)) = ![t.val % 2 * 1024 + 512 * h.val, 0] := by decide +kernel

/-- An index of a half block names a row and an entry. -/
theorem half_index (x : S1x512x768.Idx) : ∃ (r : Fin 512) (e : Fin 768), x = ix3 0 r e :=
  ⟨x 1, x 2, funext fun
    | ⟨0, _⟩ => Subsingleton.elim (α := Fin 1) _ _
    | ⟨1, _⟩ => rfl
    | ⟨2, _⟩ => rfl⟩

/-- The whole-buffer offset of three axes. -/
theorem zero3 : (![0, 0, 0] : Fin 3 → ℕ) = fun _ => 0 := by decide

/-- Row `r` of the half stored at row `512 * h` is row `512 * h + r` of the block. -/
theorem half_place (h : Fin 2) (inb : ∀ a, ![0, 512 * h.val, 0] a + ![1, 512, 768] a ≤ S1x1024x768.size a) (r : Fin 512) (e : Fin 768) :
    (ix3 0 ⟨512 * h.val + r.val, by omega⟩ e : S1x1024x768.Idx) = (Rect.unit ![0, 512 * h.val, 0] ![1, 512, 768] inb).emb (ix3 0 r e) :=
  funext fun
    | ⟨0, _⟩ => rfl
    | ⟨1, _⟩ => Fin.ext (show 512 * h.val + r.val = 512 * h.val + 1 * r.val by omega)
    | ⟨2, _⟩ => Fin.ext (show e.val = 0 + 1 * e.val by omega)

/-- The output block: row `r` normalised, with `X` the 1024 input rows and `P` the 1024 position rows. -/
def blockOut (X : Fin 1024 → Fin 1000 → EReal) (P : Fin 1024 → Fin 768 → EReal) (x2 : IVec S1x1x1024 32) (x3 : FVec Ideal S1000x768 .f32)
    (x5 x6 : FVec Ideal S2x768 .f32) : FVec Ideal S1x1024x768 .f32 :=
  fun y => Cert.Row.byRsqrt
    (Cert.Row.kernelRow (X (y 1)) (fun n e => x3 (ix2 n e)) (P (y 1)) (fun e => x5 (ix2 0 e)) (fun e => x5 (ix2 1 e)) (x2 (ix3 0 0 (y 1))))
    (fun e => x6 (ix2 0 e)) (fun e => x6 (ix2 1 e)) (y 2)

/-- Row `r` of half `h` of the block. The half's input rows `x` and ids `tt` are rows `512 * h + r` of the block's. -/
theorem half_out (t : Fin grid0.N) (h : Fin 2) (x : Vec Ideal S1x512x1000 .f32) (tt : FVec Ideal S512x1 .f32)
    (x2 : Vec Ideal S1x1x1024 .i32) (x3 : Vec Ideal S1000x768 .f32) (x4 : Vec Ideal S2048x768 .f32) (x5 x6 : Vec Ideal S2x768 .f32)
    (X : Fin 1024 → Fin 1000 → EReal) (P : Fin 1024 → Fin 768 → EReal)
    (hx : ∀ (r : Fin 512) k, x (ix3 0 r k) = X ⟨512 * h.val + r.val, by omega⟩ k)
    (htt : ∀ r : Fin 512, tt (ix2 r 0) = (((x2 (ix3 0 0 ⟨512 * h.val + r.val, by omega⟩)).toInt : ℝ) : EReal))
    (hpos : ∀ (r : Fin 1024) e, x4 (ix2 ⟨t.val % 2 * 1024 + r.val, by omega⟩ e) = P r e)
    (inb : ∀ a, k0_off1 (grid0.coords t) (BitVec.ofNat 32 (512 * h.val)) a + ![512, 768] a ≤ S2048x768.size a) (r : Fin 512) (e : Fin 768) :
    normed (k0_pay3 (View.ld x6 (Rect.unit ![0, 0] ![1, 768] inb_S2x768_S1x768_0_0)))
        (k0_pay4 (View.ld x6 (Rect.unit ![1, 0] ![1, 768] inb_S2x768_S1x768_1_0)))
        (rows (View.ld x3 (Rect.unit ![0, 0] ![1000, 768] inb_S1000x768_S1000x768_0_0))
          (View.ld x5 (Rect.unit ![0, 0] ![1, 768] inb_S2x768_S1x768_0_0))
          (k0_pay2 (View.ld x5 (Rect.unit ![0, 0] ![1, 768] inb_S2x768_S1x768_0_0))
            (View.ld x5 (Rect.unit ![1, 0] ![1, 768] inb_S2x768_S1x768_1_0)))
          (View.ld x (Rect.unit ![0, 0, 0] ![1, 512, 1000] inb_S1x512x1000_S1x512x1000_0_0_0))
          (View.ld x4 (Rect.unit (k0_off1 (grid0.coords t) (BitVec.ofNat 32 (512 * h.val))) ![512, 768] inb)) tt) (ix3 0 r e)
      = blockOut X P x2 x3 x5 x6 (ix3 0 ⟨512 * h.val + r.val, by omega⟩ e) := by
  have first : ∀ (z : Vec Ideal S2x768 .f32) (e : Fin 768),
      View.ld z (Rect.unit ![0, 0] ![1, 768] inb_S2x768_S1x768_0_0) (ix2 0 e) = z (ix2 0 e) := fun z e => by pointwise
  have second : ∀ (z : Vec Ideal S2x768 .f32) (e : Fin 768),
      View.ld z (Rect.unit ![1, 0] ![1, 768] inb_S2x768_S1x768_1_0) (ix2 0 e) = z (ix2 1 e) := fun z e => by pointwise
  have table : ∀ (n : Fin 1000) (e : Fin 768),
      View.ld x3 (Rect.unit ![0, 0] ![1000, 768] inb_S1000x768_S1000x768_0_0) (ix2 n e) = x3 (ix2 n e) := fun n e => by pointwise
  have input : ∀ k : Fin 1000,
      View.ld x (Rect.unit ![0, 0, 0] ![1, 512, 1000] inb_S1x512x1000_S1x512x1000_0_0_0) (ix3 0 r k)
        = X ⟨512 * h.val + r.val, by omega⟩ k := fun k => by rw [← hx]; pointwise
  have place : ∀ e : Fin 768,
      View.ld x4 (Rect.unit (k0_off1 (grid0.coords t) (BitVec.ofNat 32 (512 * h.val))) ![512, 768] inb) (ix2 r e)
        = P ⟨512 * h.val + r.val, by omega⟩ e := fun e => by
    rw [← hpos]
    have o := off_eq t h
    refine congrArg x4 (funext fun a => Fin.ext ?_)
    match a with
    | ⟨0, _⟩ =>
      show k0_off1 (grid0.coords t) (BitVec.ofNat 32 (512 * h.val)) 0 + 1 * r.val = t.val % 2 * 1024 + (512 * h.val + r.val)
      rw [o]
      show t.val % 2 * 1024 + 512 * h.val + 1 * r.val = _
      omega
    | ⟨1, _⟩ =>
      show k0_off1 (grid0.coords t) (BitVec.ofNat 32 (512 * h.val)) 1 + 1 * e.val = e.val
      rw [o]
      show 0 + 1 * e.val = _
      omega
  rw [half_apply (hk := htt r)]
  simp only [first x5, first x6, second x5, second x6, table, input, place]
  rfl

/-- What the body leaves in the output block at grid point `t`. `X` names the 1024 input rows, the first 512 in one input block and the
    others in the other; `P` names the 1024 position rows. -/
theorem out_eq (c : Dev nD) (t : Fin grid0.N) (arg1 : Memref sig .tc .vmem S1x512x1000 .f32) (harg1 : arg1.IsWhole)
    (arg2 : Memref sig .tc .vmem S1x512x1000 .f32) (harg2 : arg2.IsWhole) (arg3 : Memref sig .tc .vmem S1x1x1024 .i32) (harg3 : arg3.IsWhole)
    (arg4 : Memref sig .tc .vmem S1000x768 .f32) (harg4 : arg4.IsWhole) (arg5 : Memref sig .tc .vmem S2048x768 .f32) (harg5 : arg5.IsWhole)
    (arg6 : Memref sig .tc .vmem S2x768 .f32) (harg6 : arg6.IsWhole) (arg7 : Memref sig .tc .vmem S2x768 .f32) (harg7 : arg7.IsWhole)
    (arg8 : Memref sig .tc .vmem S1x1024x768 .f32) (harg8 : arg8.IsWhole)
    (x0 x1 : Vec Ideal S1x512x1000 .f32) (x2 : Vec Ideal S1x1x1024 .i32) (x3 : Vec Ideal S1000x768 .f32) (x4 : Vec Ideal S2048x768 .f32)
    (x5 x6 : Vec Ideal S2x768 .f32) (X : Fin 1024 → Fin 1000 → EReal) (P : Fin 1024 → Fin 768 → EReal)
    (hlow : ∀ (r : Fin 512) k, x0 (ix3 0 r k) = X ⟨r.val, by omega⟩ k) (hhigh : ∀ (r : Fin 512) k, x1 (ix3 0 r k) = X ⟨512 + r.val, by omega⟩ k)
    (hpos : ∀ (r : Fin 1024) e, x4 (ix2 ⟨t.val % 2 * 1024 + r.val, by omega⟩ e) = P r e) :
    out0_A_7 c (grid0.coords t) arg1 harg1 arg2 harg2 arg3 harg3 arg4 harg4 arg5 harg5 arg6 harg6 arg7 harg7 arg8 harg8 x0 x1 x2 x3 x4 x5 x6
      = blockOut X P x2 x3 x5 x6 := by
  unfold out0_A_7
  rw [View.read_writes_junk_eq_canon]
  funext y
  refine View.canon_apply_of_pieces (Val := Elt Ideal) (blockOut X P x2 x3 x5 x6) _ ?_ y (cover0_A_7 c _ _ _ _ _ _ _ _ _ _ _ _ _ _ _ _ _ _ _ _ _ _ _ _ y)
  unfold kernelRun0_A
  dsimp only
  rw [List.forall_mem_cons, List.forall_mem_singleton]
  simp only [kernelRun0_A.sl.r, kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_9, View.readAt_eq_ld, harg1.read_unread, harg2.read_unread,
    harg3.read_unread, harg4.read_unread, harg5.read_unread, harg6.read_unread, harg7.read_unread]
  constructor
  · intro x
    obtain ⟨r, e, rfl⟩ := half_index x
    rw [pay_high]
    refine (half_out t 1 _ _ x2 x3 x4 x5 x6 X P (fun r k => hhigh r k) (fun r => ?_) hpos _ r e).trans (congrArg _ ?_)
    · refine (ids_high _ r).trans ?_
      rw [View.ld_unit_zero zero3]
      rfl
    · exact half_place 1 _ r e
  · intro x
    obtain ⟨r, e, rfl⟩ := half_index x
    rw [pay_low]
    refine (half_out t 0 _ _ x2 x3 x4 x5 x6 X P (fun r k => (hlow r k).trans (congrArg (X · k) (Fin.ext (Nat.zero_add _).symm)))
      (fun r => ?_) hpos _ r e).trans (congrArg _ ?_)
    · refine (ids_low _ r).trans ?_
      rw [View.ld_unit_zero zero3]
      simp only [Nat.mul_zero, Nat.zero_add, Fin.val_zero]
    · exact half_place 0 _ r e

end Cert.KernelIdeal.Half

end
-- ==== Proof.Array.lean ====
/-
  What the kernel's result array holds after the run.

  The eight grid points fill the array block by block: point `t` works in batch `t / 2`, on its first 1024 rows when `t` is even and on
  its last 1024 when `t` is odd. The input blocks are read back to the arguments, each written block is the block of `resultOf`, and the
  blocks cover the array.
-/
module

public import proofs.«01_k».proof.Proof.Out
public import proofs.«01_k».proof.Proof.Gen.KernelIdeal.Value
public import Idealize.ShloMosaic.Lib.Pipeline.ValueKit

@[expose] public section

set_option maxRecDepth 16384

noncomputable section

namespace Cert.KernelIdeal.RefValue

open Cert.KernelIdeal Cert.KernelIdeal.Gen Idealize.ShloMosaic Idealize.ShloMosaic.TcCoe
open Idealize.ShloMosaic.Pipeline (Dat)

/-! # What the kernel's result array holds -/

variable (m : (ℓ : Loc nD τ sig) → Buf (Elt Ideal) ℓ) (c : Dev nD)

/-- The kernel's result: row `s` of batch `b` added up from the arguments as the kernel adds it, then normalised. -/
def result (a0 : FVec Ideal S4x2048x1000 .f32) (a1 : IVec S4x2048 32) (a2 : FVec Ideal S1000x768 .f32) (a3 : FVec Ideal S2048x768 .f32)
    (a4 : FVec Ideal S2x768 .f32) (a5 a6 : FVec Ideal S768 .f32) : FVec Ideal S4x2048x768 .f32 := fun j =>
  Cert.Row.byRsqrt
    (Cert.Row.kernelRow (fun n => a0 (ix3 (j 0) (j 1) n)) (fun n e => a2 (ix2 n e)) (fun e => a3 (ix2 (j 1) e)) (fun e => a4 (ix2 0 e))
      (fun e => a4 (ix2 1 e)) (a1 (ix2 (j 0) (j 1))))
    (fun e => a5 (ix1 e)) (fun e => a6 (ix1 e)) (j 2)

/-- The result of the arguments a memory holds. -/
def resultOf : FVec Ideal S4x2048x768 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## Where the blocks lie -/

/-- The first input half block of a point: an even half of 512 rows. -/
theorem index0 : ∀ t : Fin grid0.N, win0_0.index t = ![t.val / 2, 2 * (t.val % 2), 0] := by decide +kernel

/-- The second input half block: the odd half after it. -/
theorem index1 : ∀ t : Fin grid0.N, win0_1.index t = ![t.val / 2, 2 * (t.val % 2) + 1, 0] := by decide +kernel

/-- The ids: one row of 1024 for each point. -/
theorem index2 : ∀ t : Fin grid0.N, win0_2.index t = ![t.val, 0, 0] := by decide +kernel

/-- The token embedding is one block. -/
theorem index3 : ∀ t : Fin grid0.N, win0_3.index t = ![0, 0] := by decide +kernel

/-- The position table is one block. -/
theorem index4 : ∀ t : Fin grid0.N, win0_4.index t = ![0, 0] := by decide +kernel

/-- The type table is one block. -/
theorem index5 : ∀ t : Fin grid0.N, win0_5.index t = ![0, 0] := by decide +kernel

/-- The scale and shift are one block. -/
theorem index6 : ∀ t : Fin grid0.N, win0_6.index t = ![0, 0] := by decide +kernel

/-- The output block: 1024 rows of the batch. -/
theorem index7 : ∀ t : Fin grid0.N, win0_7.index t = ![t.val / 2, t.val % 2, 0] := by decide +kernel

/-- The batch grid point `t` works in. -/
def batch (t : Fin grid0.N) : Fin 4 := ⟨t.val / 2, by have := N_0; omega⟩

/-- Row `r` of grid point `t`'s block as a row of the batch. -/
def seq (t : Fin grid0.N) (r : Fin 1024) : Fin 2048 := ⟨t.val % 2 * 1024 + r.val, by omega⟩

/-! ## What the input blocks hold -/

/-- An input half block: 512 rows of the first argument. -/
theorem iblk0_apply (t : Fin grid0.N) (r : Fin 512) (k : Fin 1000) :
    iblk m c 0 t (ix3 0 r k) = m ((c : Thread nD τ).loc main_arg0) (ix3 (batch t) (seq t ⟨r.val, by omega⟩) k) := by
  blk_simp [iblk]
  rw [V_main_arg0]
  refine congrArg _ ?_
  blk_ext [index0 t, batch, seq]

/-- The other input half block: the 512 rows after them. -/
theorem iblk1_apply (t : Fin grid0.N) (r : Fin 512) (k : Fin 1000) :
    iblk m c 1 t (ix3 0 r k) = m ((c : Thread nD τ).loc main_arg0) (ix3 (batch t) (seq t ⟨512 + r.val, by omega⟩) k) := by
  blk_simp [iblk]
  rw [V_main_arg0]
  refine congrArg _ ?_
  blk_ext [index1 t, batch, seq]

/-- The ids before the launch: the 4 by 2048 ids in rows of 1024. -/
theorem V_ids : V m c main_v0 = shapeCast S8x1x1024 (m ((c : Thread nD τ).loc main_arg1)) shapeCasts_S4x2048_S8x1x1024 := by
  unfold V
  after_results_simp
  rfl

/-- The ids of a block. -/
theorem iblk2_apply (t : Fin grid0.N) (r : Fin 1024) :
    iblk m c 2 t (ix3 0 0 r) = m ((c : Thread nD τ).loc main_arg1) (ix2 (batch t) (seq t r)) := by
  blk_simp [iblk]
  have h : (win0_2.blk t).view.emb (ix3 0 0 r) = ix3 (⟨t.val, by have := N_0; omega⟩ : Fin 8) (0 : Fin 1) r := by
    blk_ext [index2 t]
  rw [h, V_ids]
  refine shapeCast_apply _ _ _ _ ?_
  refine (Shape.rowMajor_val_two (ix2 (batch t) (seq t r))).trans ((?_ : _ = _).trans
    (Shape.rowMajor_val_three (ix3 (⟨t.val, by have := N_0; omega⟩ : Fin 8) (0 : Fin 1) r)).symm)
  show t.val / 2 * 2048 + (t.val % 2 * 1024 + r.val) = (t.val * 1 + 0) * 1024 + r.val
  omega

/-- The token embedding arrives whole. -/
theorem iblk3_eq (t : Fin grid0.N) : iblk m c 3 t = m ((c : Thread nD τ).loc main_arg2) := by
  funext y
  blk_simp [iblk]
  rw [V_main_arg2]
  refine congrArg _ ?_
  blk_ext [index3 t]

/-- The position table arrives whole. -/
theorem iblk4_eq (t : Fin grid0.N) : iblk m c 4 t = m ((c : Thread nD τ).loc main_arg3) := by
  funext y
  blk_simp [iblk]
  rw [V_main_arg3]
  refine congrArg _ ?_
  blk_ext [index4 t]

/-- The type table arrives whole. -/
theorem iblk5_eq (t : Fin grid0.N) : iblk m c 5 t = m ((c : Thread nD τ).loc main_arg4) := by
  funext y
  blk_simp [iblk]
  rw [V_main_arg4]
  refine congrArg _ ?_
  blk_ext [index5 t]

/-- The scale and the shift before the launch: one on top of the other. -/
theorem V_scale_shift (j : S2x768.Idx) : V m c main_v3 j = concatenate S2x768 0
    [⟨S1x768, broadcastInDim S1x768 ![1] bcast_S768_S1x768_1 (m ((c : Thread nD τ).loc main_arg5))⟩,
      ⟨S1x768, broadcastInDim S1x768 ![1] bcast_S768_S1x768_1 (m ((c : Thread nD τ).loc main_arg6))⟩]
    concatenates_S1x768_S1x768_S2x768_d0 j := by
  unfold V
  after_results_simp

/-- They arrive whole. -/
theorem iblk6_apply (t : Fin grid0.N) (y : S2x768.Idx) : iblk m c 6 t y = V m c main_v3 y := by
  blk_simp [iblk]
  refine congrArg _ ?_
  blk_ext [index6 t]

/-- Row 0 is the scale. -/
theorem scale_apply (t : Fin grid0.N) (e : Fin 768) : iblk m c 6 t (ix2 0 e) = m ((c : Thread nD τ).loc main_arg5) (ix1 e) := by
  rw [iblk6_apply, V_scale_shift]
  pointwise

/-- Row 1 is the shift. -/
theorem shift_apply (t : Fin grid0.N) (e : Fin 768) : iblk m c 6 t (ix2 1 e) = m ((c : Thread nD τ).loc main_arg6) (ix1 e) := by
  rw [iblk6_apply, V_scale_shift]
  pointwise

/-! ## The whole array -/

/-- An index of a block names a row and an entry. -/
theorem block_index (y : S1x1024x768.Idx) : ∃ (r : Fin 1024) (e : Fin 768), y = ix3 0 r e :=
  ⟨y 1, y 2, funext fun
    | ⟨0, _⟩ => Subsingleton.elim (α := Fin 1) _ _
    | ⟨1, _⟩ => rfl
    | ⟨2, _⟩ => rfl⟩

/-- Where an entry of the block of grid point `t` lies in the array. -/
theorem place (t : Fin cfg0.N) (r : Fin 1024) (e : Fin 768) : (win0_7.blk t).view.emb (ix3 0 r e) = ix3 (batch t) (seq t r) e := by
  blk_ext [index7 t, batch, seq]

/-- After the run the kernel's array holds the result: every block written back is the result's block, and the blocks cover the array. -/
theorem final : (dats m 0 c).arrAt 7 cfg0.N = resultOf m c := by
  refine (dats m 0 c).arrAt_eq_of_covers 7 _ (by decide +kernel) fun t hf y => ?_
  blk_simp
  rw [after0_7, outsAt0, Cert.KernelIdeal.Half.out_eq
    (X := fun r k => m ((c : Thread nD τ).loc main_arg0) (ix3 (batch t) (seq t r) k))
    (P := fun r e => m ((c : Thread nD τ).loc main_arg3) (ix2 (seq t r) e))
    (hlow := iblk0_apply m c t) (hhigh := iblk1_apply m c t) (hpos := fun r e => congrFun (iblk4_eq m c t) _)]
  obtain ⟨r, e, rfl⟩ := block_index y
  rw [place]
  show Cert.Row.byRsqrt (Cert.Row.kernelRow _ (fun n e => iblk m c 3 t (ix2 n e)) _ (fun e => iblk m c 5 t (ix2 0 e))
    (fun e => iblk m c 5 t (ix2 1 e)) (iblk m c 2 t (ix3 0 0 r))) (fun e => iblk m c 6 t (ix2 0 e)) (fun e => iblk m c 6 t (ix2 1 e)) e = _
  simp only [iblk2_apply, iblk3_eq, iblk5_eq, scale_apply, shift_apply]
  rfl

end Cert.KernelIdeal.RefValue

end
-- ==== Proof.Lookup.lean ====
/-
  The reference looks up two rows for every token: the type table's by the token's id, the position table's by its position.

  A lookup counts a negative index from the end of the table, gathers, and puts NaN where the index names no row. For ids that are all 0
  or 1, and for the positions 0 to 2047, every index names a row and stays as it is, so the lookup is the row itself.
-/
module

public import proofs.«01_k».proof.Proof.Gen.ReferenceIdeal.Run
public import Idealize.ShloMosaic.Lib.Pointwise
public import Idealize.ShloMosaic.Lib.ReduceAll
public import Idealize.ShloMosaic.Lib.Routing.Ops

@[expose] public section

set_option maxRecDepth 16384

noncomputable section

namespace Cert.ReferenceIdeal.Lookup

open Cert.ReferenceIdeal Cert.ReferenceIdeal.Gen Idealize.ShloMosaic

/-! # The reference's two table lookups -/

/-! ## The type table -/

/-- The type ids as the lookup takes them: a negative id counts from the end of the table. -/
def typeIds (a1 : IVec S4x2048 32) : IVec S4x2048x1 32 :=
  broadcastInDim S4x2048x1 ![0, 1] bcast_S4x2048_S4x2048x1_0_1
    (select (cmpi .slt a1 (broadcastInDim S4x2048 ![] bcast_S_S4x2048 (constantI S_ 32 0#32)))
      (addi a1 (broadcastInDim S4x2048 ![] bcast_S_S4x2048 (constantI S_ 32 2#32))) a1)

/-- Which type ids name a row. -/
def typeMask (a1 : IVec S4x2048 32) : IVec S4x2048x1 1 :=
  andi (cmpi .sge (typeIds a1) (broadcastInDim S4x2048x1 ![] bcast_S_S4x2048x1 (constantI S_ 32 0#32)))
    (cmpi .sle (typeIds a1) (broadcastInDim S4x2048x1 ![0, 1, 2] bcast_S1x1x1_S4x2048x1_0_1_2
      (broadcastInDim S1x1x1 ![2] bcast_S1_S1x1x1_2 (constantI S1 32 1#32))))

/-- The type rows of all tokens. -/
def typeRows (a1 : IVec S4x2048 32) (a4 : FVec Ideal S2x768 .f32) : FVec Ideal S4x2048x768 .f32 :=
  select (broadcastInDim S4x2048x768 ![0, 1] bcast_S4x2048_S4x2048x768_0_1
      (Host.reduce IntOp.andi (typeMask a1) (constantI S_ 1 1#1) reducesTo_S4x2048x1_S4x2048_d2 h_S_))
    (Host.gather gather_S2x768_S4x2048x1_S4x2048x768_2_0_n_n_0_2_1768 a4 (typeIds a1))
    (broadcastInDim S4x2048x768 ![] bcast_S_S4x2048x768 (constant S_ .f32 0x7FC00000#32))

/-- An id of 0 or 1 stays as it is. -/
theorem typeIds_apply (a1 : IVec S4x2048 32) (b : Fin 4) (s : Fin 2048) (h : a1 (ix2 b s) = 0#32 ∨ a1 (ix2 b s) = 1#32) :
    typeIds a1 (ix3 b s 0) = a1 (ix2 b s) := by
  pointwise [typeIds]
  rcases h with h | h <;> rw [h] <;> decide

/-- An id of 0 or 1 names a row. -/
theorem typeMask_apply (a1 : IVec S4x2048 32) (b : Fin 4) (s : Fin 2048) (h : a1 (ix2 b s) = 0#32 ∨ a1 (ix2 b s) = 1#32) :
    typeMask a1 (ix3 b s 0) = 1#1 := by
  have e := typeIds_apply a1 b s h
  pointwise [typeMask, e]
  rcases h with h | h <;> rw [h] <;> decide

/-- The gather at a token: the row its id names. -/
theorem typeGather_apply (idx : IVec S4x2048x1 32) (a4 : FVec Ideal S2x768 .f32) (b : Fin 4) (s : Fin 2048) (e : Fin 768) (k : Fin 2)
    (hk : idx (ix3 b s 0) = BitVec.ofNat 32 k.val) :
    Host.gather gather_S2x768_S4x2048x1_S4x2048x768_2_0_n_n_0_2_1768 a4 idx (ix3 b s e) = a4 (ix2 k e) := by
  unfold Host.gather
  refine congrArg a4 (funext fun a => Fin.ext ?_)
  match a with
  | ⟨0, _⟩ =>
    have hsi : (gather_S2x768_S4x2048x1_S4x2048x768_2_0_n_n_0_2_1768).siIdx (ix3 b s e) ⟨0, by decide⟩ = ix3 b s 0 := funext fun
      | ⟨0, _⟩ => rfl
      | ⟨1, _⟩ => rfl
      | ⟨2, _⟩ => rfl
    show min (idx ((gather_S2x768_S4x2048x1_S4x2048x768_2_0_n_n_0_2_1768).siIdx (ix3 b s e) ⟨0, _⟩)).toInt.toNat (2 - 1) + 0 + 0 = k.val
    rw [hsi, hk]
    clear hk hsi
    revert k
    decide
  | ⟨1, _⟩ =>
    show 0 + 0 + e.val = e.val
    omega

/-- A token's type row, for ids that are all 0 or 1. -/
theorem typeRows_apply (a1 : IVec S4x2048 32) (a4 : FVec Ideal S2x768 .f32) (h : ∀ j, a1 j = 0#32 ∨ a1 j = 1#32) (b : Fin 4) (s : Fin 2048)
    (e : Fin 768) : typeRows a1 a4 (ix3 b s e) = if a1 (ix2 b s) = 0#32 then a4 (ix2 0 e) else a4 (ix2 1 e) := by
  have mask : Host.reduce IntOp.andi (typeMask a1) (constantI S_ 1 1#1) reducesTo_S4x2048x1_S4x2048_d2 h_S_ (ix2 b s) = 1#1 := by
    refine Host.reduce_andi_one _ _ _ _ _ rfl fun i => ?_
    have hi : i = ix3 (i 0) (i 1) (0 : Fin 1) := funext fun
      | ⟨0, _⟩ => rfl
      | ⟨1, _⟩ => rfl
      | ⟨2, _⟩ => Subsingleton.elim (α := Fin 1) _ _
    rw [hi]
    exact typeMask_apply a1 _ _ (h _)
  have row : Host.gather gather_S2x768_S4x2048x1_S4x2048x768_2_0_n_n_0_2_1768 a4 (typeIds a1) (ix3 b s e)
      = if a1 (ix2 b s) = 0#32 then a4 (ix2 0 e) else a4 (ix2 1 e) := by
    have hid := typeIds_apply a1 b s (h _)
    rcases h (ix2 b s) with h | h
    · rw [typeGather_apply (typeIds a1) a4 b s e 0 (hid.trans h), if_pos h]
    · rw [typeGather_apply (typeIds a1) a4 b s e 1 (hid.trans h), if_neg (by rw [h]; decide)]
  rw [← row]
  pointwise [typeRows, mask]

/-! ## The position table -/

/-- The positions as the lookup takes them. -/
def positions : IVec S2048x1 32 :=
  broadcastInDim S2048x1 ![0] bcast_S2048_S2048x1_0
    (select (cmpi .slt (iotaInDim S2048 32 0) (broadcastInDim S2048 ![] bcast_S_S2048 (constantI S_ 32 0#32)))
      (addi (iotaInDim S2048 32 0) (broadcastInDim S2048 ![] bcast_S_S2048 (constantI S_ 32 2048#32))) (iotaInDim S2048 32 0))

/-- Which positions name a row. -/
def positionMask : IVec S2048x1 1 :=
  andi (cmpi .sge positions (broadcastInDim S2048x1 ![] bcast_S_S2048x1 (constantI S_ 32 0#32)))
    (cmpi .sle positions (broadcastInDim S2048x1 ![0, 1] bcast_S1x1_S2048x1_0_1 (broadcastInDim S1x1 ![1] bcast_S1_S1x1_1 (constantI S1 32 2047#32))))

/-- The position rows. -/
def positionRows (a3 : FVec Ideal S2048x768 .f32) : FVec Ideal S2048x768 .f32 :=
  select (broadcastInDim S2048x768 ![0] bcast_S2048_S2048x768_0
      (Host.reduce IntOp.andi positionMask (constantI S_ 1 1#1) reducesTo_S2048x1_S2048_d1 h_S_))
    (Host.gather gather_S2048x768_S2048x1_S2048x768_1_0_n_n_0_1_1768 a3 positions)
    (broadcastInDim S2048x768 ![] bcast_S_S2048x768 (constant S_ .f32 0x7FC00000#32))

/-- A position is its own number. -/
theorem positions_apply (s : Fin 2048) : positions (ix2 s 0) = BitVec.ofNat 32 s.val := by
  pointwise [positions]
  revert s
  decide +kernel

/-- Every position names a row. -/
theorem positionMask_apply (s : Fin 2048) : positionMask (ix2 s 0) = 1#1 := by
  have e := positions_apply s
  pointwise [positionMask, e]
  clear e
  revert s
  decide +kernel

/-- The position row of position `s` is row `s` of the table. -/
theorem positionRows_apply (a3 : FVec Ideal S2048x768 .f32) (s : Fin 2048) (e : Fin 768) : positionRows a3 (ix2 s e) = a3 (ix2 s e) := by
  have mask : Host.reduce IntOp.andi positionMask (constantI S_ 1 1#1) reducesTo_S2048x1_S2048_d1 h_S_ (ix1 s) = 1#1 := by
    refine Host.reduce_andi_one _ _ _ _ _ rfl fun i => ?_
    have hi : i = ix2 (i 0) (0 : Fin 1) := funext fun
      | ⟨0, _⟩ => rfl
      | ⟨1, _⟩ => Subsingleton.elim (α := Fin 1) _ _
    rw [hi]
    exact positionMask_apply _
  have row : Host.gather gather_S2048x768_S2048x1_S2048x768_1_0_n_n_0_1_1768 a3 positions (ix2 s e) = a3 (ix2 s e) :=
    Routing.gather_row _ rfl rfl rfl rfl rfl a3 positions s e s (positions_apply s) (by decide)
  rw [← row]
  pointwise [positionRows, mask]

end Cert.ReferenceIdeal.Lookup

end
-- ==== Proof.Reference.lean ====
/-
  What the reference computes, entry by entry: each row is the product with the token embedding plus the type row plus the position row,
  and the result is each row normalised, scaled and shifted.
-/
module

public import proofs.«01_k».proof.Proof.Lookup
public import proofs.«01_k».proof.Proof.Row

@[expose] public section

set_option maxRecDepth 16384

noncomputable section

namespace Cert.ReferenceIdeal.RefValue

open Cert.ReferenceIdeal Cert.ReferenceIdeal.Gen Cert.ReferenceIdeal.Lookup Idealize.ShloMosaic Idealize.ShloMosaic.TcCoe

/-! # What the reference computes -/

/-- The rows before normalisation: token embedding, type row, position row. -/
def sums (a0 : FVec Ideal S4x2048x1000 .f32) (a1 : IVec S4x2048 32) (a2 : FVec Ideal S1000x768 .f32) (a3 : FVec Ideal S2048x768 .f32)
    (a4 : FVec Ideal S2x768 .f32) : FVec Ideal S4x2048x768 .f32 :=
  addf (addf (Host.dotGeneral dot_S4x2048x1000_S1000x768_S4x2048x768_2_0_01_1_n_n none a0 a2) (typeRows a1 a4))
    (broadcastInDim S4x2048x768 ![0, 1, 2] bcast_S1x2048x768_S4x2048x768_0_1_2
      (broadcastInDim S1x2048x768 ![1, 2] bcast_S2048x768_S1x2048x768_1_2 (positionRows a3)))

/-- The mean of every row, as a column. -/
def means (y : FVec Ideal S4x2048x768 .f32) : FVec Ideal S4x2048x1 .f32 :=
  Host.divf (broadcastInDim S4x2048x1 ![0, 1] bcast_S4x2048_S4x2048x1_0_1
      (Host.reduceAdd y (constant S_ .f32 0x00000000#32) reducesTo_S4x2048x768_S4x2048_d2 h_S_))
    (broadcastInDim S4x2048x1 ![] bcast_S_S4x2048x1 (constant S_ .f32 0x44400000#32))

/-- The rows less their means. -/
def centred (y : FVec Ideal S4x2048x768 .f32) : FVec Ideal S4x2048x768 .f32 :=
  subf y (broadcastInDim S4x2048x768 ![0, 1, 2] bcast_S4x2048x1_S4x2048x768_0_1_2 (means y))

/-- The deviation of every row: the root of the mean square plus the constant. -/
def deviations (y : FVec Ideal S4x2048x768 .f32) : FVec Ideal S4x2048x1 .f32 :=
  Host.sqrt (addf (means (mulf (centred y) (centred y))) (broadcastInDim S4x2048x1 ![] bcast_S_S4x2048x1 (constant S_ .f32 0x3A83126F#32)))

/-- The rows normalised, scaled and shifted. -/
def normed (y : FVec Ideal S4x2048x768 .f32) (a5 a6 : FVec Ideal S768 .f32) : FVec Ideal S4x2048x768 .f32 :=
  addf (mulf (Host.divf (centred y) (broadcastInDim S4x2048x768 ![0, 1, 2] bcast_S4x2048x1_S4x2048x768_0_1_2 (deviations y)))
      (broadcastInDim S4x2048x768 ![0, 1, 2] bcast_S1x1x768_S4x2048x768_0_1_2 (broadcastInDim S1x1x768 ![2] bcast_S768_S1x1x768_2 a5)))
    (broadcastInDim S4x2048x768 ![0, 1, 2] bcast_S1x1x768_S4x2048x768_0_1_2 (broadcastInDim S1x1x768 ![2] bcast_S768_S1x1x768_2 a6))

/-- The reference's result is the normalised sums of its arguments. -/
theorem res_eq (m : (ℓ : Loc nD τ sig) → Buf (Elt Ideal) ℓ) (c : Dev nD) :
    Value.res_out0 m c
      = normed (sums (m ((c : Thread nD τ).loc main_arg0)) (m ((c : Thread nD τ).loc main_arg1)) (m ((c : Thread nD τ).loc main_arg2))
          (m ((c : Thread nD τ).loc main_arg3)) (m ((c : Thread nD τ).loc main_arg4)))
        (m ((c : Thread nD τ).loc main_arg5)) (m ((c : Thread nD τ).loc main_arg6)) := by
  unfold Value.res_out0 Value.res_main_v31
  rfl

/-- An entry of a row before normalisation, for ids that are all 0 or 1. -/
theorem sums_apply (a0 : FVec Ideal S4x2048x1000 .f32) (a1 : IVec S4x2048 32) (a2 : FVec Ideal S1000x768 .f32) (a3 : FVec Ideal S2048x768 .f32)
    (a4 : FVec Ideal S2x768 .f32) (h : ∀ j, a1 j = 0#32 ∨ a1 j = 1#32) (b : Fin 4) (s : Fin 2048) (e : Fin 768) :
    sums a0 a1 a2 a3 a4 (ix3 b s e)
      = Cert.Row.referenceRow (fun n => a0 (ix3 b s n)) (fun n e => a2 (ix2 n e)) (fun e => a3 (ix2 s e)) (fun e => a4 (ix2 0 e))
          (fun e => a4 (ix2 1 e)) (a1 (ix2 b s)) e := by
  have ht := typeRows_apply a1 a4 h b s e
  have hp := positionRows_apply a3 s e
  pointwise [sums, Cert.Row.referenceRow, ht, hp]

/-- The mean of a row. -/
theorem means_apply (y : FVec Ideal S4x2048x768 .f32) (b : Fin 4) (s : Fin 2048) :
    means y (ix3 b s 0) = Cert.Row.mean fun e => y (ix3 b s e) := by
  pointwise [means, Cert.Row.mean, Cert.Row.width]

/-- An entry of a row less the mean. -/
theorem centred_apply (y : FVec Ideal S4x2048x768 .f32) (b : Fin 4) (s : Fin 2048) (e : Fin 768) :
    centred y (ix3 b s e) = Cert.Row.dev (fun e => y (ix3 b s e)) e := by
  have h := means_apply y b s
  pointwise [centred, Cert.Row.dev, h]

/-- The deviation of a row. -/
theorem deviations_apply (y : FVec Ideal S4x2048x768 .f32) (b : Fin 4) (s : Fin 2048) :
    deviations y (ix3 b s 0) = Ideal.sqrt (Cert.Row.spread fun e => y (ix3 b s e)) := by
  have h : means (mulf (centred y) (centred y)) (ix3 b s 0)
      = Ideal.div (∑ e : Fin 768, Cert.Row.dev (fun e => y (ix3 b s e)) e * Cert.Row.dev (fun e => y (ix3 b s e)) e) Cert.Row.width := by
    rw [means_apply]
    simp only [← centred_apply]
    pointwise [Cert.Row.mean]
  pointwise [deviations, Cert.Row.spread, Cert.Row.eps, h]

/-- An entry of a normalised row. -/
theorem normed_apply (y : FVec Ideal S4x2048x768 .f32) (a5 a6 : FVec Ideal S768 .f32) (b : Fin 4) (s : Fin 2048) (e : Fin 768) :
    normed y a5 a6 (ix3 b s e) = Cert.Row.bySqrt (fun e => y (ix3 b s e)) (fun e => a5 (ix1 e)) (fun e => a6 (ix1 e)) e := by
  have hc := centred_apply y b s e
  have hd := deviations_apply y b s
  pointwise [normed, Cert.Row.bySqrt, hc, hd]

end Cert.ReferenceIdeal.RefValue

end
-- ==== Proof.Pre.lean ====
/-
  What the precondition says of the arguments: every token type id is 0 or 1, and row 0 of the type table is finite.
-/
module

public import proofs.«01_k».proof.Proof.Gen.Pre_types_in_table
public import Idealize.ShloMosaic.Lib.Pointwise
public import Idealize.ShloMosaic.Lib.Affine

@[expose] public section

noncomputable section

namespace Cert.Pre_types_in_table

open Idealize.ShloMosaic

/-- A word that is at least 0 and below 2, both read signed, is 0 or 1. -/
theorem zero_or_one (w : BitVec 32) (h : IntOp.andi (IntOp.cmpi .sge w 0#32) (IntOp.cmpi .slt w 2#32) = 1#1) : w = 0#32 ∨ w = 1#32 := by
  have bit (p : Bool) : (BitVec.ofBool p = 1#1) ↔ p = true := by cases p <;> decide
  obtain ⟨h0, h2⟩ := IntOp.andi_eq_one.1 h
  simp only [IntOp.cmpi, bit, BitVec.sle_eq_decide, BitVec.slt_eq_decide, decide_eq_true_eq, BitVec.toInt_eq_toNat_cond,
    BitVec.toNat_ofNat, Nat.reducePow, Nat.reduceMod] at h0 h2
  have hw : w.toNat = 0 ∨ w.toNat = 1 := by omega
  exact hw.imp (fun e => BitVec.eq_of_toNat_eq e) fun e => BitVec.eq_of_toNat_eq e

/-- A number whose absolute value is below infinity is real. -/
theorem real_of_abs_lt (x : EReal) (h : Ideal.cmp .olt (max x (-x)) (Ideal.ofBits .f32 0x7F800000#32) = 1#1) : ∃ r : ℝ, x = r := by
  induction x with
  | bot => simp [Ideal.cmp, Ideal.ofBits, Ideal.ieee] at h
  | top => simp [Ideal.cmp, Ideal.ofBits, Ideal.ieee] at h
  | coe r => exact ⟨r, rfl⟩

variable {x : FVec Ideal S4x2048x1000 .f32} {ids : IVec S4x2048 32} {emb : FVec Ideal S1000x768 .f32} {pos : FVec Ideal S2048x768 .f32}
  {types : FVec Ideal S2x768 .f32} {gamma beta : FVec Ideal S768 .f32}

/-- Under the precondition every token type id is 0 or 1. -/
theorem ids_of_fn (h : (fn x ids emb pos types gamma beta).1 = fun _ => 1#1) (j : S4x2048.Idx) : ids j = 0#32 ∨ ids j = 1#32 :=
  zero_or_one _ (congrFun h j)

/-- Under the precondition every entry of row 0 of the type table is real. -/
theorem row_of_fn (h : (fn x ids emb pos types gamma beta).2 = fun _ => 1#1) (e : Fin 768) : ∃ r : ℝ, types (ix2 0 e) = r := by
  refine real_of_abs_lt _ (Eq.trans ?_ (congrFun h (ix1 e)))
  pointwise [fn]
  rfl

end Cert.Pre_types_in_table

end
-- ==== Proof.Equation.lean ====
/-
  The equation between the two results, as functions of the seven arguments.
-/
module

public import proofs.«01_k».proof.Proof.Array
public import proofs.«01_k».proof.Proof.Reference
public import proofs.«01_k».proof.Proof.Pre

@[expose] public section

set_option maxRecDepth 16384

noncomputable section

namespace Cert.Equation

open Idealize.ShloMosaic

/-! # The kernel's result is the reference's -/

/-- For ids that are all 0 or 1 and a finite row 0 of the type table, the kernel's result is the reference's, entry by entry: a row adds up to
    the same numbers in both, and both normalise it alike. -/
theorem result_eq (a0 : FVec Ideal ⟨3, ![4, 2048, 1000]⟩ .f32) (a1 : IVec ⟨2, ![4, 2048]⟩ 32) (a2 : FVec Ideal ⟨2, ![1000, 768]⟩ .f32)
    (a3 : FVec Ideal ⟨2, ![2048, 768]⟩ .f32) (a4 : FVec Ideal ⟨2, ![2, 768]⟩ .f32) (a5 a6 : FVec Ideal ⟨1, ![768]⟩ .f32)
    (ids : ∀ j, a1 j = 0#32 ∨ a1 j = 1#32) (row : ∀ e : Fin 768, ∃ r : ℝ, a4 (ix2 0 e) = r) :
    Cert.ReferenceIdeal.RefValue.normed (Cert.ReferenceIdeal.RefValue.sums a0 a1 a2 a3 a4) a5 a6
      = Cert.KernelIdeal.RefValue.result a0 a1 a2 a3 a4 a5 a6 := by
  funext j
  obtain ⟨b, s, e, rfl⟩ : ∃ (b : Fin 4) (s : Fin 2048) (e : Fin 768), j = ix3 b s e := ⟨j 0, j 1, j 2, funext fun
    | ⟨0, _⟩ => rfl
    | ⟨1, _⟩ => rfl
    | ⟨2, _⟩ => rfl⟩
  rw [Cert.ReferenceIdeal.RefValue.normed_apply]
  simp only [Cert.ReferenceIdeal.RefValue.sums_apply a0 a1 a2 a3 a4 ids]
  rw [← Cert.Row.byRsqrt_eq_bySqrt]
  rw [← Cert.Row.kernelRow_eq _ _ _ _ _ row _ (ids _)]
  rfl

end Cert.Equation

end
-- ==== Proof.lean ====
/-
  The certificate: the kernel and the reference run and leave their arguments alone (the frames), idealizing the kernel changes no
  operation (preserves), and over extended reals the kernel's result is the reference's (algebraic).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_types_in_table
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged and ends with every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments and meet the precondition, kernel and reference end with equal results. -/
theorem algebraic : Cert.algebraic_KernelIdeal_ReferenceIdeal_pre_types_in_table (hKernelIdeal := Cert.KernelIdeal.Gen.facts)
    (hReferenceIdeal := Cert.ReferenceIdeal.Gen.facts) (hPre_types_in_table := Cert.Pre_types_in_table.Gen.facts) := by
  intro m ρ m' ρ' hpre hagree
  refine ⟨fun c => Cert.KernelIdeal.RefValue.resultOf m c, ?_, ?_⟩
  · refine (θ_run _ _ _).mono (fun r h c => ⟨(h c).1.trans (Cert.KernelIdeal.RefValue.final m c), (h c).2⟩)
      (Cert.KernelIdeal.Value.run_blocks m ρ)
  · refine (θ_run _ _ _).mono (fun r h c => ⟨(h c).1.trans ?_, (h c).2⟩) (Cert.ReferenceIdeal.Value.run (F := Ideal) m' ρ')
    refine (Cert.ReferenceIdeal.RefValue.res_eq m' c).trans ?_
    obtain ⟨h0, h1, h2, h3, h4, h5, h6⟩ := hagree c
    rw [h0, h1, h2, h3, h4, h5, h6]
    exact Cert.Equation.result_eq _ _ _ _ _ _ _ (Cert.Pre_types_in_table.ids_of_fn (hpre c).1) (Cert.Pre_types_in_table.row_of_fn (hpre c).2)

/-- All the claims. -/
theorem claim : Cert.Claim :=
  ⟨Cert.Kernel.Gen.facts, Cert.KernelIdeal.Gen.facts, Cert.ReferenceIdeal.Gen.facts, Cert.Pre_types_in_table.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
